-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_below_inf [hPre_logits_below_inf : Cert.Pre_logits_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_logits_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_below_inf [hPre_logits_below_inf : Cert.Pre_logits_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_logits_below_inf [hKernelIdeal : Cert.KernelIdeal.Facts] [hPre_logits_below_inf : Cert.Pre_logits_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_logits_below_inf [hReferenceIdeal : Cert.ReferenceIdeal.Facts] [hPre_logits_below_inf : Cert.Pre_logits_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_logits_below_inf [hKernelIdeal : Cert.KernelIdeal.Facts] [hReferenceIdeal : Cert.ReferenceIdeal.Facts] [hPre_logits_below_inf : Cert.Pre_logits_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_logits_below_inf : Cert.Pre_logits_below_inf.Facts),
    quiescent_Kernel (hKernel := hKernel)
    ∧ quiescent_KernelIdeal (hKernelIdeal := hKernelIdeal)
    ∧ quiescent_KernelIdeal_pre_logits_below_inf (hKernelIdeal := hKernelIdeal) (hPre_logits_below_inf := hPre_logits_below_inf)
    ∧ quiescent_ReferenceIdeal (hReferenceIdeal := hReferenceIdeal)
    ∧ quiescent_ReferenceIdeal_pre_logits_below_inf (hReferenceIdeal := hReferenceIdeal) (hPre_logits_below_inf := hPre_logits_below_inf)
    ∧ preserves_Kernel_KernelIdeal
    ∧ algebraic_KernelIdeal_ReferenceIdeal_pre_logits_below_inf (hKernelIdeal := hKernelIdeal) (hReferenceIdeal := hReferenceIdeal) (hPre_logits_below_inf := hPre_logits_below_inf)
-- ==== Pre_logits_below_inf.lean ====
abbrev S8x1024 : Shape := ⟨2, ![8, 1024]⟩
abbrev S1024x100000 : Shape := ⟨2, ![1024, 100000]⟩
abbrev S100000 : Shape := ⟨1, ![100000]⟩
abbrev S8x100000 : Shape := ⟨2, ![8, 100000]⟩
abbrev S1x100000 : Shape := ⟨2, ![1, 100000]⟩
abbrev S_ : Shape := ⟨0, ![]⟩

class Facts : Prop where
  bcast_S100000_S1x100000_1 : S100000.BroadcastsInDim S1x100000 (![1] : Fin 1 → Fin S1x100000.rank)
  bcast_S1x100000_S8x100000_0_1 : S1x100000.BroadcastsInDim S8x100000 (![0, 1] : Fin 2 → Fin S8x100000.rank)
  bcast_S_S8x100000 : S_.BroadcastsInDim S8x100000 (![] : Fin 0 → Fin S8x100000.rank)
  reducesTo_S8x100000_S_d0_1 : S8x100000.ReducesTo [0, 1] S_
  h_S_ : 0 < S_.numel
  dot_S8x1024_S1024x100000_S8x100000_1_0_0_1_n_n_wf : DotDims.WF S8x1024 S1024x100000 S8x100000 [1] [0] [0] [1] [] []

variable [Facts]

def dot_S8x1024_S1024x100000_S8x100000_1_0_0_1_n_n : DotDims S8x1024 S1024x100000 S8x100000 where
  lhsContracting := [1]
  rhsContracting := [0]
  lhsNonContracting := [0]
  rhsNonContracting := [1]
  lhsBatch := []
  rhsBatch := []
  wf := dot_S8x1024_S1024x100000_S8x100000_1_0_0_1_n_n_wf
def fn {F : FTy → Type} [FloatOps F] (main_arg0 : FVec F S8x1024 .f32) (main_arg1 : FVec F S1024x100000 .f32) (main_arg2 : FVec F S100000 .f32) : IVec S_ 1 :=
  let main_v0 : FVec F S8x100000 .f32 := (fun l r => Host.dotGeneral dot_S8x1024_S1024x100000_S8x100000_1_0_0_1_n_n none l r) main_arg0 main_arg1
  let main_v1 : FVec F S1x100000 .f32 := broadcastInDim S1x100000 ![1] bcast_S100000_S1x100000_1 main_arg2
  let main_v2 : FVec F S8x100000 .f32 := broadcastInDim S8x100000 ![0, 1] bcast_S1x100000_S8x100000_0_1 main_v1
  let main_v3 : FVec F S8x100000 .f32 := addf main_v0 main_v2
  let main_cst : FVec F S_ .f32 := constant S_ .f32 0x7F800000#32
  let main_v4 : FVec F S8x100000 .f32 := broadcastInDim S8x100000 ![] bcast_S_S8x100000 main_cst
  let main_v5 : IVec S8x100000 1 := cmpf .olt main_v3 main_v4
  let main_c : IVec S_ 1 := constantI S_ 1 1#1
  let main_v6 : IVec S_ 1 := (fun x v => Host.reduce IntOp.andi x v reducesTo_S8x100000_S_d0_1 h_S_) main_v5 main_c
  main_v6
-- ==== Kernel.lean ====
abbrev S8x1024 : Shape := ⟨2, ![8, 1024]⟩
abbrev S1024x100000 : Shape := ⟨2, ![1024, 100000]⟩
abbrev S100000 : Shape := ⟨1, ![100000]⟩
abbrev S_ : Shape := ⟨0, ![]⟩
abbrev S102400 : Shape := ⟨1, ![102400]⟩
abbrev S1x102400 : Shape := ⟨2, ![1, 102400]⟩
abbrev S100000x1024 : Shape := ⟨2, ![100000, 1024]⟩
abbrev S8x100000 : Shape := ⟨2, ![8, 100000]⟩
abbrev S4096x1024 : Shape := ⟨2, ![4096, 1024]⟩
abbrev S8x128 : Shape := ⟨2, ![8, 128]⟩
abbrev S8x4096 : Shape := ⟨2, ![8, 4096]⟩
abbrev S1x4096 : Shape := ⟨2, ![1, 4096]⟩
abbrev S8x1696 : Shape := ⟨2, ![8, 1696]⟩
abbrev S8x1 : Shape := ⟨2, ![8, 1]⟩
abbrev S8 : Shape := ⟨1, ![8]⟩

abbrev nBuf : Space → Nat
  | .hbm => 9
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x100000, .f32⟩
  | .hbm, ⟨2, _⟩ => ⟨S100000, .f32⟩
  | .hbm, ⟨3, _⟩ => ⟨S_, .i32⟩
  | .hbm, ⟨4, _⟩ => ⟨S_, .f32⟩
  | .hbm, ⟨5, _⟩ => ⟨S102400, .f32⟩
  | .hbm, ⟨6, _⟩ => ⟨S1x102400, .f32⟩
  | .hbm, ⟨7, _⟩ => ⟨S100000x1024, .f32⟩
  | .hbm, ⟨8, _⟩ => ⟨S8x100000, .f32⟩
  | .local _ .vmem, ⟨0, _⟩ => ⟨S8x1024, .f32⟩
  | .local _ .vmem, ⟨1, _⟩ => ⟨S4096x1024, .f32⟩
  | .local _ .vmem, ⟨2, _⟩ => ⟨S4096x1024, .f32⟩
  | .local _ .vmem, ⟨3, _⟩ => ⟨S1x102400, .f32⟩
  | .local _ .vmem, ⟨4, _⟩ => ⟨S8x100000, .f32⟩
  | .local _ .vmem, ⟨5, _⟩ => ⟨S8x128, .f32⟩
  | .local _ .vmem, ⟨6, _⟩ => ⟨S8x128, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let c0_4 : Index := 0#32
  let arg0 : BitVec 32 := BitVec.ofNat 32 (i 0).val
  let c4096_i32 : BitVec 32 := 4096#32
  let v7 : BitVec 32 := Scalar.muli arg0 c4096_i32
  let v8 : Index := Scalar.indexCast v7
  ![0, v8.toNat]
def k0_cond2 (i : grid0.Coords) : BitVec 1 :=
  let arg0 : BitVec 32 := BitVec.ofNat 32 (i 0).val
  let c24_i32 : BitVec 32 := 24#32
  let v13 : BitVec 1 := Scalar.cmpi .slt arg0 c24_i32
  let v14 : BitVec 32 := Scalar.extui v13
  let c0_i32_5 : BitVec 32 := 0#32
  let v15 : BitVec 1 := Scalar.cmpi .ne v14 c0_i32_5
  v15

def k0_off2 (i : grid0.Coords) : Fin 2 → Nat :=
  let c0_23 : Index := 0#32
  let arg0 : BitVec 32 := BitVec.ofNat 32 (i 0).val
  let c4096_i32_22 : BitVec 32 := 4096#32
  let v56 : BitVec 32 := Scalar.muli arg0 c4096_i32_22
  let v57 : Index := Scalar.indexCast v56
  ![0, v57.toNat]
def k0_cond3 (i : grid0.Coords) : BitVec 1 :=
  let arg0 : BitVec 32 := BitVec.ofNat 32 (i 0).val
  let c24_i32_6 : BitVec 32 := 24#32
  let v16 : BitVec 1 := Scalar.cmpi .eq arg0 c24_i32_6
  let v17 : BitVec 32 := Scalar.extui v16
  let c0_i32_7 : BitVec 32 := 0#32
  let v18 : BitVec 1 := Scalar.cmpi .ne v17 c0_i32_7
  v18

def k0_cond4 (i : grid0.Coords) : BitVec 1 :=
  let arg0 : BitVec 32 := BitVec.ofNat 32 (i 0).val
  let c24_i32_20 : BitVec 32 := 24#32
  let v53 : BitVec 1 := Scalar.cmpi .eq arg0 c24_i32_20
  let v54 : BitVec 32 := Scalar.extui v53
  let c0_i32_21 : BitVec 32 := 0#32
  let v55 : BitVec 1 := Scalar.cmpi .ne v54 c0_i32_21
  v55

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x102400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x100000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8x1024 : Shape := ⟨2, ![8, 1024]⟩
abbrev S1024x100000 : Shape := ⟨2, ![1024, 100000]⟩
abbrev S100000 : Shape := ⟨1, ![100000]⟩
abbrev S8x100000 : Shape := ⟨2, ![8, 100000]⟩
abbrev S1x100000 : Shape := ⟨2, ![1, 100000]⟩
abbrev S_ : Shape := ⟨0, ![]⟩
abbrev S8 : Shape := ⟨1, ![8]⟩
abbrev S8x1 : Shape := ⟨2, ![8, 1]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x100000, .f32⟩
  | .hbm, ⟨2, _⟩ => ⟨S100000, .f32⟩
  | .hbm, ⟨3, _⟩ => ⟨S8x100000, .f32⟩
  | .hbm, ⟨4, _⟩ => ⟨S1x100000, .f32⟩
  | .hbm, ⟨5, _⟩ => ⟨S8x100000, .f32⟩
  | .hbm, ⟨6, _⟩ => ⟨S8x100000, .f32⟩
  | .hbm, ⟨7, _⟩ => ⟨S_, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8x1, .f32⟩
  | .hbm, ⟨13, _⟩ => ⟨S8x100000, .f32⟩
  | .hbm, ⟨14, _⟩ => ⟨S8x100000, .f32⟩
  | .hbm, ⟨15, _⟩ => ⟨S8x100000, .f32⟩
  | .hbm, ⟨16, _⟩ => ⟨S_, .f32⟩
  | .hbm, ⟨17, _⟩ => ⟨S8, .f32⟩
  | .hbm, ⟨18, _⟩ => ⟨S8x1, .f32⟩
  | .hbm, ⟨19, _⟩ => ⟨S8x1, .f32⟩
  | .hbm, ⟨20, _⟩ => ⟨S8x100000, .f32⟩
  | .hbm, ⟨21, _⟩ => ⟨S8x100000, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v4 : Ref sig .tc := ⟨.hbm, 21, rfl⟩

abbrev nD : Nat := 1
abbrev τ : Topo := Topo.v7x

variable {F : FTy → Type} [FloatOps F]
-- ==== Proof.BodyIdeal.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.DatRel
public import Idealize.ShloMosaic.Lib.Pipeline.ArrRel
public import Idealize.ShloMosaic.Lib.Tactic
public import Idealize.ShloMosaic.Lib.WordCmp
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three kinds of grid point -/

/-- The condition under which the body resets its two scratch buffers. -/
abbrev cond1 (i : grid0.Coords) : BitVec 1 :=
  Scalar.cmpi .ne (Scalar.extui (Scalar.cmpi .eq (BitVec.ofNat 32 (i 0).val) 0#32)) 0#32

theorem cond1_iff : ∀ i : grid0.Coords, cond1 i = 1#1 ↔ (i 0).val = 0 := by decide +kernel
theorem cond2_iff : ∀ i : grid0.Coords, k0_cond2 i = 1#1 ↔ (i 0).val < 24 := by decide +kernel
theorem cond3_iff : ∀ i : grid0.Coords, k0_cond3 i = 1#1 ↔ (i 0).val = 24 := by decide +kernel
theorem cond4_iff : ∀ i : grid0.Coords, k0_cond4 i = 1#1 ↔ (i 0).val = 24 := by decide +kernel

/-! ## What one run of the body leaves, as functions of what it finds -/

/-- The bias block of the point's columns. -/
def biasOf (i : grid0.Coords) (x3 : Vec F S1x102400 .f32) : Vec F S1x4096 .f32 :=
  VecWindow.window x3 (k0_off1 i) S1x4096.size (k0_off1_inb i)

/-- The first column of a scratch buffer. -/
def firstCol (x : Vec F S8x128 .f32) : Vec F S8x1 .f32 :=
  VecWindow.window x ![0, 0] S8x1.size inb_S8x128_S8x1_0_0

/-- The running maximum the point starts from: minus infinity at the first point. -/
def startMax (i : grid0.Coords) (x5 : Vec F S8x128 .f32) : Vec F S8x128 .f32 :=
  if (i 0).val = 0 then k0_pay5 else x5

/-- The running sum the point starts from: zero at the first point. -/
def startSum (i : grid0.Coords) (x6 : Vec F S8x128 .f32) : Vec F S8x128 .f32 :=
  if (i 0).val = 0 then k0_pay6 else x6

/-- The new running maximum, one entry per row. -/
def rowMax (i : grid0.Coords) (x1 : Vec F S8x1024 .f32) (x2 : Vec F S4096x1024 .f32) (x3 : Vec F S1x102400 .f32)
    (x5 : Vec F S8x128 .f32) : Vec F S8x1 .f32 :=
  k0_pay10 i x1 x2 (biasOf i x3) (firstCol (startMax i x5))

/-- The running maximum's buffer after the point. -/
def newMax (i : grid0.Coords) (x1 : Vec F S8x1024 .f32) (x2 : Vec F S4096x1024 .f32) (x3 : Vec F S1x102400 .f32)
    (x5 : Vec F S8x128 .f32) : Vec F S8x128 .f32 :=
  k0_pay2 (rowMax i x1 x2 x3 x5)

/-- The running sum's buffer after the point. -/
def newSum (i : grid0.Coords) (x1 : Vec F S8x1024 .f32) (x2 : Vec F S4096x1024 .f32) (x3 : Vec F S1x102400 .f32)
    (x5 x6 : Vec F S8x128 .f32) : Vec F S8x128 .f32 :=
  k0_pay3 (k0_pay9 i x1 x2 (biasOf i x3)) (firstCol (startSum i x6)) (rowMax i x1 x2 x3 x5)
    (k0_pay11 i x1 x2 (biasOf i x3) (firstCol (startMax i x5)))

/-- The output's buffer after the point: before the last point the block of logits is put at its columns; at the last
    point the block's part inside the array is put, and then the row's log-sum-exp is taken away everywhere. -/
def newOut (i : grid0.Coords) (x1 : Vec F S8x1024 .f32) (x2 : Vec F S4096x1024 .f32) (x3 : Vec F S1x102400 .f32)
    (x4 : Vec F S8x100000 .f32) (x5 x6 : Vec F S8x128 .f32) : Vec F S8x100000 .f32 :=
  if (i 0).val = 24 then
    k0_pay4 (k0_pay9 i x1 x2 (biasOf i x3)) (firstCol (startSum i x6)) (rowMax i x1 x2 x3 x5)
      (k0_pay11 i x1 x2 (biasOf i x3) (firstCol (startMax i x5)))
      (VecWindow.put x4 ![0, 98304] S8x1696.size (k0_pay8 x1 x2 (biasOf i x3)))
  else VecWindow.put x4 (k0_off2 i) S8x4096.size (k0_pay7 x1 x2 (biasOf i x3))

/-! ## The body's run -/

/-- One run of the body at a grid point: the three inputs are read and left as they were, and the output's buffer and the
    two scratch buffers end at `newOut`, `newMax`, `newSum` of what the six buffers held. -/
theorem body_run (c : Dev nD) (i : grid0.Coords)
    (arg1 : Memref sig .tc .vmem S8x1024 .f32) (harg1 : arg1.IsWhole)
    (arg2 : Memref sig .tc .vmem S4096x1024 .f32) (harg2 : arg2.IsWhole)
    (arg3 : Memref sig .tc .vmem S1x102400 .f32) (harg3 : arg3.IsWhole)
    (arg4 : Memref sig .tc .vmem S8x100000 .f32) (harg4 : arg4.IsWhole)
    (arg5 : Memref sig .tc .vmem S8x128 .f32) (harg5 : arg5.IsWhole)
    (arg6 : Memref sig .tc .vmem S8x128 .f32) (harg6 : arg6.IsWhole)
    (x1 : Vec F S8x1024 .f32) (x2 : Vec F S4096x1024 .f32) (x3 : Vec F S1x102400 .f32) (x4 : Vec F S8x100000 .f32)
    (x5 x6 : Vec F S8x128 .f32) (E : Set ℕ) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ (iprop(owns (c : Thread nD τ) arg1 fullShare x1 ∗ owns (c : Thread nD τ) arg2 fullShare x2
            ∗ owns (c : Thread nD τ) arg3 fullShare x3
            ∗ owns (c : Thread nD τ) arg4 fullShare (newOut i x1 x2 x3 x4 x5 x6)
            ∗ owns (c : Thread nD τ) arg5 fullShare (newMax i x1 x2 x3 x5)
            ∗ owns (c : Thread nD τ) arg6 fullShare (newSum i x1 x2 x3 x5 x6)) -∗ K ⟨⟩))
      ⊢ wp frame (wpE (defs₀ (F := F)) Variants.none c none) E
          (cc0__hmm_obs_kernel i arg1 harg1 arg2 harg2 arg3 harg3 arg4 harg4 arg5 harg5 arg6 harg6) K := by
  simp only [cc0__hmm_obs_kernel_eq_skeleton]; unfold cc0__hmm_obs_kernel_skel
  sl_open_parts
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  have hlt : (i 0).val < 25 := (i 0).isLt
  have r1 : View.readAt (Elt F) arg1.view (Rect.unit ![0, 0] S8x1024.size inb_S8x1024_S8x1024_0_0).toLoadRect f1 = x1 :=
    (View.readAt_full _ _ _).trans e1
  have r2 : View.readAt (Elt F) arg2.view (Rect.unit ![0, 0] S4096x1024.size inb_S4096x1024_S4096x1024_0_0).toLoadRect f2 = x2 :=
    (View.readAt_full _ _ _).trans e2
  have r3 : View.readAt (Elt F) arg3.view (Rect.unit (s := S1x102400) (k0_off1 i) S1x4096.size (k0_off1_inb i)).toLoadRect f3 = biasOf i x3 := by
    rw [← e3]; rfl
  have r5 : View.readAt (Elt F) arg5.view (Rect.unit (s := S8x128) ![0, 0] S8x1.size inb_S8x128_S8x1_0_0).toLoadRect f5 = firstCol x5 := by
    rw [← e5]; rfl
  have r6 : View.readAt (Elt F) arg6.view (Rect.unit (s := S8x128) ![0, 0] S8x1.size inb_S8x128_S8x1_0_0).toLoadRect f6 = firstCol x6 := by
    rw [← e6]; rfl
  have cov (M : Memref sig .tc .vmem S8x128 .f32) (w : Vec F S8x128 .f32) :
      View.readCov M.view [⟨Rect.unit (s := S8x128) ![0, 0] S8x128.size inb_S8x128_S8x128_0_0, w⟩]
        (Rect.unit (s := S8x128) ![0, 0] S8x1.size inb_S8x128_S8x1_0_0).toLoadRect = firstCol w := by
    have h := View.read_writes_full M.view (M.view.junk (Val := Elt F)) inb_S8x128_S8x128_0_0 w []
    exact congrArg firstCol h
  by_cases h0 : (i 0).val = 0
  · have hc1 : cond1 i = 1#1 := (cond1_iff i).2 h0
    have hc2 : k0_cond2 i = 1#1 := (cond2_iff i).2 (by omega)
    have hc3 : ¬k0_cond3 i = 1#1 := fun h => by have := (cond3_iff i).1 h; omega
    have hc4 : ¬k0_cond4 i = 1#1 := fun h => by have := (cond4_iff i).1 h; omega
    sl_exec
    sl_step
    iapply Hk
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro
      unfold newOut rowMax startMax startSum
      rw [if_neg (by omega)]
      rw [← e4]; exact View.read_writes_cons_put _ _ _ _ [] rfl
    isplitl [H5]
    · iexists _; isplitr; swap; · iexact H5
      ipureintro
      unfold newMax rowMax startMax
      rw [if_pos h0]
      refine (View.read_writes_full _ _ _ _ _).trans ?_; sl_unfold_words; rfl
    · iexists _; isplitr; swap; · iexact H6
      ipureintro
      unfold newSum rowMax startMax startSum
      rw [if_pos h0]
      refine (View.read_writes_full _ _ _ _ _).trans ?_; rw [if_pos h0]
  · have hc1 : ¬cond1 i = 1#1 := fun h => h0 ((cond1_iff i).1 h)
    by_cases h24 : (i 0).val = 24
    · have hc2 : ¬k0_cond2 i = 1#1 := fun h => by have := (cond2_iff i).1 h; omega
      have hc3 : k0_cond3 i = 1#1 := (cond3_iff i).2 h24
      have hc4 : k0_cond4 i = 1#1 := (cond4_iff i).2 h24
      sl_exec
      sl_step
      iapply Hk
      isplitl [H1]
      · iexists _; isplitr; swap; · iexact H1
        ipureintro; exact e1
      isplitl [H2]
      · iexists _; isplitr; swap; · iexact H2
        ipureintro; exact e2
      isplitl [H3]
      · iexists _; isplitr; swap; · iexact H3
        ipureintro; exact e3
      isplitl [H4]
      · iexists _; isplitr; swap; · iexact H4
        ipureintro
        unfold newOut rowMax startMax startSum
        rw [if_pos h24, if_neg h0, if_neg h0]
        refine (View.read_writes_full _ _ _ _ _).trans ?_
        sl_unfold_words
        rw [View.readAt_full, View.read_writes_cons_put _ _ _ _ _ rfl, View.writes_nil, e4]
      isplitl [H5]
      · iexists _; isplitr; swap; · iexact H5
        ipureintro
        unfold newMax rowMax startMax
        rw [if_neg h0]
        exact View.read_writes_full _ _ _ _ _
      · iexists _; isplitr; swap; · iexact H6
        ipureintro
        unfold newSum rowMax startMax startSum
        rw [if_neg h0, if_neg h0]
        exact View.read_writes_full _ _ _ _ _
    · have hc2 : k0_cond2 i = 1#1 := (cond2_iff i).2 (by omega)
      have hc3 : ¬k0_cond3 i = 1#1 := fun h => h24 ((cond3_iff i).1 h)
      have hc4 : ¬k0_cond4 i = 1#1 := fun h => h24 ((cond4_iff i).1 h)
      sl_exec
      sl_step
      iapply Hk
      isplitl [H1]
      · iexists _; isplitr; swap; · iexact H1
        ipureintro; exact e1
      isplitl [H2]
      · iexists _; isplitr; swap; · iexact H2
        ipureintro; exact e2
      isplitl [H3]
      · iexists _; isplitr; swap; · iexact H3
        ipureintro; exact e3
      isplitl [H4]
      · iexists _; isplitr; swap; · iexact H4
        ipureintro
        unfold newOut rowMax startMax startSum
        rw [if_neg h24]
        rw [← e4]; exact View.read_writes_cons_put _ _ _ _ [] rfl
      isplitl [H5]
      · iexists _; isplitr; swap; · iexact H5
        ipureintro
        unfold newMax rowMax startMax
        rw [if_neg h0]
        exact View.read_writes_full _ _ _ _ _
      · iexists _; isplitr; swap; · iexact H6
        ipureintro
        unfold newSum rowMax startMax startSum
        rw [if_neg h0, if_neg h0]
        exact View.read_writes_full _ _ _ _ _

end Cert.KernelIdeal.Hand

end
-- ==== Proof.FrameIdeal.lean ====
module

public import proofs.«01_k».proof.Proof.BodyIdeal

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame: the program ends, and its arguments and counters are as at the start -/

/-- The scratch buffers at anything. -/
theorem classInv_eq (c : Dev nD) :
    (Pipeline.ΦA (Val := Elt F) spec0 c : sProp 𝕄)
      = iprop(iprop((∃ d : Vec F S8x128 .f32, owns (c : Thread nD τ) (Memref.whole cc0_scratch0) fullShare d)
          ∗ (∃ d : Vec F S8x128 .f32, owns (c : Thread nD τ) (Memref.whole cc0_scratch1) fullShare d)) ∗ (∃ r, prngReg c r)) := by
  unfold Pipeline.ΦA
  rw [scopedRest0_eq]
  simp only [owns_whole]; rfl

/-- The transposed weights' block at a point, filled out past the array's last row with zeros. -/
def wblk (c : Dev nD) (t : Fin cfg0.N) : Vec F S4096x1024 .f32 :=
  win0_1.fill (grid0.coords t) (fun _ => Scalar.ofBits .f32 0#32) (iblk m c 1 t)

/-- The proof data of the frame: the inputs' buffers keep their blocks, and the output's is not spoken of. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => iblk m c 2 t
    | ⟨3, _⟩ => fun _ => Scalar.ofBits .f32 0#32
  Φ _ := Pipeline.ΦA spec0 c
  q _ := fullShare
  owed _ := 0

/-- The one window whose contents the frame does not speak of. -/
def outOnly : Fin cfg0.W → Bool := fun w => match w with
  | ⟨0, _⟩ => false
  | ⟨1, _⟩ => false
  | ⟨2, _⟩ => false
  | ⟨3, _⟩ => true

theorem before_0 (c : Dev nD) (t : Fin cfg0.N) (d) : (dats m 0 c).before (0 : Fin 4) t d = iblk m c 0 t :=
  before0_0_of m (dats m 0 c) rfl (fun _ => rfl) t d
theorem before_2 (c : Dev nD) (t : Fin cfg0.N) (d) : (dats m 0 c).before (2 : Fin 4) t d = iblk m c 2 t :=
  before0_2_of m (dats m 0 c) rfl (fun _ => rfl) t d
theorem before_1 (c : Dev nD) (t : Fin cfg0.N) (d) :
    (dats m 0 c).before (1 : Fin 4) t d = win0_1.fill (grid0.coords t) d (iblk m c 1 t) := by
  unfold Dat.before; rw [if_pos (fetch0_1 t)]; rfl

theorem defs₀_row (t : Fin cfg0.N) :
    (defs₀ (F := F)) .tc cfg0.body (cfg0.bodyArgs t (cfg0.slots t)) = bodyAt0 t := by
  unfold defs₀; rw [Defs.onTc_tc]

theorem body_obligation (c : Dev nD) :
    BodyObligationLoose (dats m 0 c) (defs₀ (F := F)) Variants.none () Set.univ outOnly := fun t => by
  rw [bigSep_W0, bigSep_W0, defs₀_row]
  simp only [outOnly]
  rw [show (dats m 0 c).owesAt () t.succ = (dats m 0 c).owesAt () t.castSucc from rfl]
  rw [show (dats m 0 c).Φ t.succ = Pipeline.ΦA spec0 c from rfl,
    show (dats m 0 c).Φ t.castSucc = Pipeline.ΦA spec0 c from rfl, classInv_eq]
  iintro ⟨⟨⟨⟨%x5, H5⟩, ⟨%x6, H6⟩⟩, Hp⟩, Ho, ⟨%d0, H0⟩, ⟨%d1, H1⟩, ⟨%d2, H2⟩, ⟨%x4, H4⟩⟩
  rw [before_0 m c t d0, before_1 m c t d1, before_2 m c t d2]
  iapply (body_run (F := F) c (grid0.coords t) _ _ _ _ _ _ _ _ _ _ _ _ (iblk m c 0 t)
    (win0_1.fill (grid0.coords t) d1 (iblk m c 1 t)) (iblk m c 2 t) x4 x5 x6 Set.univ _)
  isplitl [H0]; · iexact H0
  isplitl [H1]; · iexact H1
  isplitl [H2]; · iexact H2
  isplitl [H4]; · iexact H4
  isplitl [H5]; · iexact H5
  isplitl [H6]; · iexact H6
  iintro ⟨H0, H1, H2, H4, H5, H6⟩
  isplitl [H5 H6 Hp]
  · isplitl [H5 H6]
    · isplitl [H5]
      · iexists _; iexact H5
      · iexists _; iexact H6
    · iexact Hp
  isplitl [Ho]; · iexact Ho
  isplitl [H0]; · iexact H0
  isplitl [H1]
  · iexists d1
    change _ ⊢ owns (c : Thread nD τ) (win0_1.stage (cfg0.slots t 1)) fullShare
      (win0_1.fill (grid0.coords t) d1 (win0_1.cut (grid0.coords t) (wblk m c t)))
    rw [show win0_1.cut (grid0.coords t) (wblk m c t) = iblk m c 1 t from win0_1.cut_fill _ _ _]
  isplitl [H2]; · iexact H2
  iexists _; iexact H4

set_option backward.isDefEq.respectTransparency.types false in
theorem run_main : θ_run defs (onTc (τ := τ) (main (F := F))) (s₀ m ρ)
    (fun r => RDat.FramePost cfg0 (fun c => (dats m 0 c).toRForget outOnly) (V m) r ∧ r.2.sem = fun _ => 0) :=
  Pipeline.θ_run_frame_forget (Q' := _) cfgs (dats m) (0 : Fin 1) launch0 defs₀ Variants.none outOnly m ρ main
    (hbody := body_obligation m) (hshare := fun c => (dats m 0 c).share_full fun _ => rfl)
    (howed := fun _ _ => rfl) (V := V m) (hmain := hmain m Variants.none) (hA := fun _ _ => rfl)
    (hΦ := fun _ _ => rfl)

/-- The frame, for any reading of the floating-point operations. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main m ρ)

end Cert.KernelIdeal.Hand

end
-- ==== Proof.Online.lean ====
module

public import Idealize.ShloMosaic.PureOps.Ideal
public import Mathlib.Tactic.Ring
public import Mathlib.Tactic.NormNum

@[expose] public section

noncomputable section

namespace Cert.Online

open Idealize.ShloMosaic

/-! ## The exact softmax sums of a sequence of extended reals, taken a block at a time -/

/-- The maximum of the first `n` entries. -/
def top (g : ℕ → EReal) (n : ℕ) : EReal := (Finset.range n).sup g

/-- The sum of the exponentials of the first `n` entries, each less the maximum of them. -/
def mass (g : ℕ → EReal) (n : ℕ) : EReal := ∑ k ∈ Finset.range n, Ideal.exp (g k - top g n)

variable {g : ℕ → EReal}

@[simp] theorem top_zero : top g 0 = ⊥ := rfl
@[simp] theorem mass_zero : mass g 0 = 0 := rfl

theorem top_add (n m : ℕ) : top g (n + m) = max (top g n) ((Finset.range m).sup fun i => g (n + i)) := by
  unfold top
  apply le_antisymm
  · refine Finset.sup_le fun k hk => ?_
    rw [Finset.mem_range] at hk
    by_cases h : k < n
    · exact le_max_of_le_left (Finset.le_sup (f := g) (Finset.mem_range.2 h))
    · refine le_max_of_le_right ?_
      have := Finset.le_sup (f := fun i => g (n + i)) (Finset.mem_range.2 (show k - n < m by omega))
      simpa [show n + (k - n) = k by omega] using this
  · refine max_le ?_ ?_
    · exact Finset.sup_mono (Finset.range_subset_range.2 (by omega))
    · refine Finset.sup_le fun i hi => ?_
      rw [Finset.mem_range] at hi
      exact Finset.le_sup (f := g) (Finset.mem_range.2 (show n + i < n + m by omega))

/-- `top_add` with the block's entries indexed by `Fin`. -/
theorem top_add_fin (n m : ℕ) : top g (n + m) = max (top g n) (Finset.univ.sup fun i : Fin m => g (n + i.val)) := by
  rw [top_add]; congr 1
  apply le_antisymm
  · refine Finset.sup_le fun i hi => ?_
    exact Finset.le_sup (f := fun i : Fin m => g (n + i.val)) (Finset.mem_univ ⟨i, Finset.mem_range.1 hi⟩)
  · exact Finset.sup_le fun i _ => Finset.le_sup (f := fun i => g (n + i)) (Finset.mem_range.2 i.isLt)

theorem le_top {n k : ℕ} (h : k < n) : g k ≤ top g n := Finset.le_sup (f := g) (Finset.mem_range.2 h)

theorem top_lt (hg : ∀ k, g k < ⊤) (n : ℕ) : top g n < ⊤ := (Finset.sup_lt_iff (by simp)).2 fun k _ => hg k

/-- Below minus infinity's maximum every entry is minus infinity. -/
theorem eq_bot_of_top {n k : ℕ} (h : top g n = ⊥) (hk : k < n) : g k = ⊥ := le_bot_iff.1 (h ▸ le_top hk)

/-- Taking a greater real maximum scales each exponential. -/
theorem exp_rescale (x : EReal) (hx : x < ⊤) (a b : ℝ) :
    Ideal.exp (x - b) = Ideal.exp (x - a) * Ideal.exp ((a : EReal) - b) := by
  induction x with
  | bot => simp
  | top => exact absurd hx (lt_irrefl _)
  | coe r =>
    rw [← EReal.coe_sub, ← EReal.coe_sub, ← EReal.coe_sub, Ideal.exp_coe, Ideal.exp_coe, Ideal.exp_coe, ← EReal.coe_mul, ← Real.exp_add]
    congr 2; ring

/-- An exponential of an entry less a real is a real. -/
theorem exp_real (x : EReal) (hx : x < ⊤) (a : ℝ) : ∃ r : ℝ, Ideal.exp (x - a) = r := by
  induction x with
  | bot => exact ⟨0, by simp⟩
  | top => exact absurd hx (lt_irrefl _)
  | coe r => exact ⟨_, by rw [← EReal.coe_sub, Ideal.exp_coe]⟩

/-- A sum of reals read in the extended reals. -/
theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- A sum of reals times a real, in the extended reals. -/
theorem sum_mul_coe {ι : Type} (s : Finset ι) (f : ι → EReal) (hf : ∀ i ∈ s, ∃ r : ℝ, f i = r) (a : ℝ) :
    ∑ i ∈ s, f i * a = (∑ i ∈ s, f i) * a := by
  choose! r hr using hf
  rw [Finset.sum_congr rfl fun i hi => by rw [hr i hi, ← EReal.coe_mul], Finset.sum_congr rfl hr, ← coe_sum, ← coe_sum,
    ← EReal.coe_mul, Finset.sum_mul]

/-- The exponentials of the first `n` entries less a greater maximum are the old sum rescaled. -/
theorem mass_rescale (hg : ∀ k, g k < ⊤) (n : ℕ) (M : EReal) (hM : M < ⊤) (h : top g n ≤ M) :
    ∑ k ∈ Finset.range n, Ideal.exp (g k - M) = mass g n * Ideal.exp (top g n - M) := by
  unfold mass
  rcases eq_or_ne (top g n) ⊥ with hb | hb
  · have : ∀ N : EReal, ∑ k ∈ Finset.range n, Ideal.exp (g k - N) = 0 := fun N =>
      Finset.sum_eq_zero fun k hk => by rw [eq_bot_of_top hb (Finset.mem_range.1 hk), EReal.bot_sub, Ideal.exp_bot]
    rw [this, this, zero_mul]
  · obtain ⟨a, ha⟩ : ∃ a : ℝ, top g n = a := ⟨_, (EReal.coe_toReal (top_lt hg n).ne hb).symm⟩
    obtain ⟨b, hb'⟩ : ∃ b : ℝ, M = b := ⟨_, (EReal.coe_toReal hM.ne fun e => hb (le_bot_iff.1 (e ▸ h))).symm⟩
    rw [ha, hb', ← EReal.coe_sub a b, Ideal.exp_coe, ← sum_mul_coe _ _ fun k _ => exp_real _ (hg k) a]
    refine Finset.sum_congr rfl fun k _ => ?_
    rw [exp_rescale _ (hg k) a b, ← EReal.coe_sub a b, Ideal.exp_coe]

/-- One block's step of the running sum. -/
theorem mass_add (hg : ∀ k, g k < ⊤) (n m : ℕ) :
    mass g (n + m) = mass g n * Ideal.exp (top g n - top g (n + m)) + ∑ i ∈ Finset.range m, Ideal.exp (g (n + i) - top g (n + m)) := by
  conv_lhs => unfold mass
  rw [Finset.sum_range_add, mass_rescale hg n _ (top_lt hg _) (by rw [top_add]; exact le_max_left _ _)]

/-- `mass_add` with the block's entries indexed by `Fin`. -/
theorem mass_add_fin (hg : ∀ k, g k < ⊤) (n m : ℕ) :
    mass g (n + m) = mass g n * Ideal.exp (top g n - top g (n + m)) + ∑ i : Fin m, Ideal.exp (g (n + i.val) - top g (n + m)) := by
  rw [mass_add hg, Finset.sum_range]

/-- Taking the log-sum-exp away at once or in two steps. -/
theorem sub_lse (x M y : EReal) (hM : M < ⊤) (hx : x ≤ M) : x - (M + y) = x - M - y := by
  induction M with
  | top => exact absurd hM (lt_irrefl _)
  | bot => rw [le_bot_iff.1 hx]; simp
  | coe a =>
    induction x with
    | bot => simp
    | top => exact absurd (lt_of_le_of_lt hx hM) (lt_irrefl _)
    | coe r =>
      induction y with
      | bot => simp [← EReal.coe_sub]
      | top => simp [← EReal.coe_sub]
      | coe s => norm_cast; ring

/-! ## A sequence that is minus infinity from some place on -/

/-- A finite row of extended reals, continued by minus infinity. -/
def extend {N : ℕ} (f : Fin N → EReal) (k : ℕ) : EReal := if h : k < N then f ⟨k, h⟩ else ⊥

variable {N : ℕ} {f : Fin N → EReal}

theorem extend_val (k : Fin N) : extend f k.val = f k := by simp [extend]
theorem extend_of_lt {k : ℕ} (h : k < N) : extend f k = f ⟨k, h⟩ := dif_pos h
theorem extend_of_le {k : ℕ} (h : N ≤ k) : extend f k = ⊥ := dif_neg (by omega)

theorem extend_lt (hf : ∀ k, f k < ⊤) (k : ℕ) : extend f k < ⊤ := by
  unfold extend; split
  · exact hf _
  · exact bot_lt_top

theorem top_extend {n : ℕ} (h : N ≤ n) : top (extend f) n = Finset.univ.sup f := by
  unfold top
  apply le_antisymm
  · refine Finset.sup_le fun k _ => ?_
    unfold extend; split
    · exact Finset.le_sup (f := f) (Finset.mem_univ _)
    · exact bot_le
  · refine Finset.sup_le fun k _ => ?_
    rw [← extend_val (f := f) k]
    exact Finset.le_sup (f := extend f) (Finset.mem_range.2 (lt_of_lt_of_le k.isLt h))

theorem mass_extend {n : ℕ} (h : N ≤ n) : mass (extend f) n = ∑ k, Ideal.exp (f k - Finset.univ.sup f) := by
  unfold mass
  rw [top_extend h]
  obtain ⟨d, rfl⟩ := Nat.exists_eq_add_of_le h
  rw [Finset.sum_range_add, Finset.sum_eq_zero (s := Finset.range d) fun i _ => by
    rw [extend_of_le (Nat.le_add_right N i), EReal.bot_sub, Ideal.exp_bot], add_zero, Finset.sum_range]
  exact Finset.sum_congr rfl fun k _ => by rw [extend_val]

end Cert.Online

end
-- ==== Proof.PayIdeal.lean ====
module

public import proofs.«01_k».proof.Proof.BodyIdeal
public import proofs.«01_k».proof.Proof.Online
public import Idealize.ShloMosaic.Lib.Pointwise

@[expose] public section

set_option maxRecDepth 16384

noncomputable section

namespace Cert.KernelIdeal.Hand

open Cert.KernelIdeal Cert.KernelIdeal.Gen Cert.Online
open Idealize.ShloMosaic Idealize.ShloMosaic.TcCoe Idealize.ShloMosaic.Tactic

/-! ## The kernel's vector values, read at an index over the extended reals -/

theorem negInf : Ideal.ofBits .f32 4286578688#32 = ⊥ := by simp [Ideal.ofBits, Ideal.ieee]

section

variable (i : grid0.Coords) (x1 : Vec Ideal S8x1024 .f32) (x2 : Vec Ideal S4096x1024 .f32) (x3 : Vec Ideal S1x102400 .f32)
  (x4 : Vec Ideal S8x100000 .f32) (x5 x6 : Vec Ideal S8x128 .f32) (b : Vec Ideal S1x4096 .f32)
  (v v30 v33 v34 : Vec Ideal S8x1 .f32) (v28 : Vec Ideal S8x4096 .f32)

/-- A block of logits. -/
theorem pay7_at (r : Fin 8) (k : Fin 4096) :
    k0_pay7 x1 x2 b (ix2 r k) = (∑ q : Fin 1024, x1 (ix2 r q) * x2 (ix2 k q)) + b (ix2 (0 : Fin 1) k) := by
  pointwise [k0_pay7]

theorem pay8_at (r : Fin 8) (k : Fin 1696) :
    k0_pay8 x1 x2 b (ix2 r k) = k0_pay7 x1 x2 b (ix2 r (⟨k.val, by omega⟩ : Fin 4096)) := by
  pointwise [k0_pay8]

/-- The block with the columns past the end at minus infinity. -/
theorem pay9_at (r : Fin 8) (k : Fin 4096) :
    k0_pay9 i x1 x2 b (ix2 r k) = if 4096 * (i 0).val + k.val < 100000 then k0_pay7 x1 x2 b (ix2 r k) else ⊥ := by
  pointwise [k0_pay9]
  have hi : (i 0).val < 25 := (i 0).isLt
  have e : IntOp.cmpi .slt (IntOp.addi (Scalar.muli (BitVec.ofNat 32 (i 0).val) 4096#32) (BitVec.ofNat 32 k.val)) 100000#32
      = if 4096 * (i 0).val + k.val < 100000 then 1#1 else 0#1 := by
    rw [← WordCmp.cmpi_slt_mul_add_ofNat (w := 32) 4096 (i 0).val k.val 100000 (by omega) (by omega)]
    rw [show Scalar.muli (BitVec.ofNat 32 (i 0).val) 4096#32 = IntOp.muli (BitVec.ofNat 32 4096) (BitVec.ofNat 32 (i 0).val) from
      BitVec.mul_comm _ _]
  rw [e, negInf]
  by_cases h : 4096 * (i 0).val + k.val < 100000
  · rw [if_pos h, if_pos h]; rfl
  · rw [if_neg h, if_neg h]; rfl

theorem pay10_at (r : Fin 8) :
    k0_pay10 i x1 x2 b v (ix2 r (0 : Fin 1))
      = max (v (ix2 r (0 : Fin 1))) (Finset.univ.sup fun k : Fin 4096 => k0_pay9 i x1 x2 b (ix2 r k)) := by
  pointwise [k0_pay10]
  rw [negInf]; rfl

theorem pay11_at (r : Fin 8) :
    k0_pay11 i x1 x2 b v (ix2 r (0 : Fin 1)) = v (ix2 r (0 : Fin 1)) - k0_pay10 i x1 x2 b v (ix2 r (0 : Fin 1)) := by
  pointwise [k0_pay11]

theorem pay1_at (r : Fin 8) :
    k0_pay1 v28 v30 v33 v34 (ix2 r (0 : Fin 1)) = v30 (ix2 r (0 : Fin 1)) * Ideal.exp (v34 (ix2 r (0 : Fin 1)))
      + ∑ k : Fin 4096, Ideal.exp (v28 (ix2 r k) - v33 (ix2 r (0 : Fin 1))) := by
  pointwise [k0_pay1]

theorem pay2_at (r : Fin 8) (k : Fin 128) : k0_pay2 (F := Ideal) v33 (ix2 r k) = v33 (ix2 r (0 : Fin 1)) := by
  pointwise [k0_pay2]

theorem pay3_at (r : Fin 8) (k : Fin 128) :
    k0_pay3 v28 v30 v33 v34 (ix2 r k) = k0_pay1 v28 v30 v33 v34 (ix2 r (0 : Fin 1)) := by
  pointwise [k0_pay3]

theorem pay4_at (r : Fin 8) (k : Fin 100000) :
    k0_pay4 v28 v30 v33 v34 x4 (ix2 r k)
      = x4 (ix2 r k) - (v33 (ix2 r (0 : Fin 1)) + Ideal.log (k0_pay1 v28 v30 v33 v34 (ix2 r (0 : Fin 1)))) := by
  pointwise [k0_pay4]

theorem pay5_at (r : Fin 8) (k : Fin 128) : k0_pay5 (F := Ideal) (ix2 r k) = ⊥ := by
  pointwise [k0_pay5]; exact negInf

theorem pay6_at (r : Fin 8) (k : Fin 128) : k0_pay6 (F := Ideal) (ix2 r k) = 0 := by
  pointwise [k0_pay6]

theorem firstCol_at (r : Fin 8) : firstCol (F := Ideal) x5 (ix2 r (0 : Fin 1)) = x5 (ix2 r (0 : Fin 128)) := by
  refine congrArg x5 (funext fun a => Fin.ext ?_)
  match a with
  | ⟨0, _⟩ => show 0 + 1 * r.val = r.val; omega
  | ⟨1, _⟩ => rfl

theorem biasOf_at (k : Fin 4096) :
    biasOf (F := Ideal) i x3 (ix2 (0 : Fin 1) k)
      = x3 (ix2 (0 : Fin 1) (⟨4096 * (i 0).val + k.val, by have : (i 0).val < 25 := (i 0).isLt; omega⟩ : Fin 102400)) := by
  refine congrArg x3 (funext fun a => Fin.ext ?_)
  match a with
  | ⟨0, _⟩ => show k0_off1 i 0 + 1 * 0 = 0; rw [k0_off1_eq]; rfl
  | ⟨1, _⟩ => show k0_off1 i 1 + 1 * k.val = 4096 * (i 0).val + k.val; rw [k0_off1_eq]; show 4096 * (i 0).val + 1 * k.val = _; omega

end

/-! ## One grid point, in terms of the logits -/

section

variable (i : grid0.Coords) (x1 : Vec Ideal S8x1024 .f32) (x2 : Vec Ideal S4096x1024 .f32) (x3 : Vec Ideal S1x102400 .f32)
  (x4 : Vec Ideal S8x100000 .f32) (x5 x6 : Vec Ideal S8x128 .f32) (L : Fin 8 → Fin 100000 → EReal)

/-- What the point's two running buffers hold before it: at the first point anything, later the maximum and the sum over
    the columns of the points before. -/
def Running (L : Fin 8 → Fin 100000 → EReal) (t : ℕ) (x5 x6 : Vec Ideal S8x128 .f32) : Prop :=
  t ≠ 0 → ∀ (r : Fin 8) (k : Fin 128), x5 (ix2 r k) = top (extend (L r)) (4096 * t) ∧ x6 (ix2 r k) = mass (extend (L r)) (4096 * t)

/-- The point's block of logits is right at the columns inside the array. -/
def BlockIs (L : Fin 8 → Fin 100000 → EReal) (i : grid0.Coords) (x1 : Vec Ideal S8x1024 .f32) (x2 : Vec Ideal S4096x1024 .f32)
    (x3 : Vec Ideal S1x102400 .f32) : Prop :=
  ∀ (r : Fin 8) (k : Fin 100000) (j : Fin 4096), k.val = 4096 * (i 0).val + j.val → k0_pay7 x1 x2 (biasOf i x3) (ix2 r j) = L r k

variable {i x1 x2 x3 x4 x5 x6 L}

theorem masked_at (hB : BlockIs L i x1 x2 x3) (r : Fin 8) (k : Fin 4096) :
    k0_pay9 i x1 x2 (biasOf i x3) (ix2 r k) = extend (L r) (4096 * (i 0).val + k.val) := by
  rw [pay9_at]
  by_cases h : 4096 * (i 0).val + k.val < 100000
  · rw [if_pos h, extend_of_lt h]; exact hB r ⟨_, h⟩ k rfl
  · rw [if_neg h, extend_of_le (by omega)]

theorem startMax_at (hR : Running L (i 0).val x5 x6) (r : Fin 8) (k : Fin 128) :
    startMax i x5 (ix2 r k) = top (extend (L r)) (4096 * (i 0).val) := by
  unfold startMax
  by_cases h : (i 0).val = 0
  · rw [if_pos h, pay5_at, h]; rfl
  · rw [if_neg h]; exact (hR h r k).1

theorem startSum_at (hR : Running L (i 0).val x5 x6) (r : Fin 8) (k : Fin 128) :
    startSum i x6 (ix2 r k) = mass (extend (L r)) (4096 * (i 0).val) := by
  unfold startSum
  by_cases h : (i 0).val = 0
  · rw [if_pos h, pay6_at, h]; rfl
  · rw [if_neg h]; exact (hR h r k).2

theorem rowMax_at (hB : BlockIs L i x1 x2 x3) (hR : Running L (i 0).val x5 x6) (r : Fin 8) :
    rowMax i x1 x2 x3 x5 (ix2 r (0 : Fin 1)) = top (extend (L r)) (4096 * (i 0).val + 4096) := by
  unfold rowMax
  rw [pay10_at, firstCol_at, startMax_at hR, top_add_fin]
  congr 2; funext k; exact masked_at hB r k

theorem rowSum_at (hL : ∀ r k, L r k < ⊤) (hB : BlockIs L i x1 x2 x3) (hR : Running L (i 0).val x5 x6) (r : Fin 8) :
    k0_pay1 (k0_pay9 i x1 x2 (biasOf i x3)) (firstCol (startSum i x6)) (rowMax i x1 x2 x3 x5)
      (k0_pay11 i x1 x2 (biasOf i x3) (firstCol (startMax i x5))) (ix2 r (0 : Fin 1))
      = mass (extend (L r)) (4096 * (i 0).val + 4096) := by
  rw [pay1_at, firstCol_at, startSum_at hR, pay11_at, firstCol_at, startMax_at hR, mass_add_fin (extend_lt (hL r))]
  have e := rowMax_at hB hR r
  rw [e]; unfold rowMax at e; rw [e]
  congr 1
  exact Finset.sum_congr rfl fun k _ => by rw [masked_at hB r k]

/-- After the point the running buffers hold the maximum and the sum over its columns too. -/
theorem running_new (hL : ∀ r k, L r k < ⊤) (hB : BlockIs L i x1 x2 x3) (hR : Running L (i 0).val x5 x6) :
    Running L ((i 0).val + 1) (newMax i x1 x2 x3 x5) (newSum i x1 x2 x3 x5 x6) := fun _ r k => by
  unfold newMax newSum
  rw [pay2_at, pay3_at, rowSum_at hL hB hR, rowMax_at hB hR, Nat.mul_add]
  exact ⟨rfl, rfl⟩

/-- What the output's buffer holds after point `t`: before the last point the logits of the columns so far, after it
    every column's logit less its row's log-sum-exp. -/
def OutIs (L : Fin 8 → Fin 100000 → EReal) (t : ℕ) (x4 : Vec Ideal S8x100000 .f32) : Prop :=
  ∀ (r : Fin 8) (k : Fin 100000),
    if t = 24 then x4 (ix2 r k) = L r k - (top (extend (L r)) 102400 + Ideal.log (mass (extend (L r)) 102400))
    else k.val < 4096 * (t + 1) → x4 (ix2 r k) = L r k

/-- A block put over some columns, read at a column inside it. -/
theorem put_cols_in {α : Type} {N o m : ℕ} (x : (⟨2, ![8, N]⟩ : Shape).Idx → α) (w : (⟨2, ![8, m]⟩ : Shape).Idx → α) (r : Fin 8) (k : Fin N)
    (j : Fin m) (h : k.val = o + j.val) : VecWindow.put x ![0, o] ![8, m] w (ix2 r k) = w (ix2 r j) := by
  have hall : ∀ a : Fin 2, (ix2 r k a).val = (![0, o] : Fin 2 → ℕ) a + (ix2 r j a).val := fun a => by
    match a with
    | ⟨0, _⟩ => exact (Nat.zero_add _).symm
    | ⟨1, _⟩ => exact h
  unfold VecWindow.put
  rw [dif_pos fun a => ⟨by rw [hall a]; exact Nat.le_add_right _ _, by rw [hall a]; exact Nat.add_lt_add_left (ix2 r j a).isLt _⟩]
  refine congrArg w (funext fun a => Fin.ext ?_)
  show (ix2 r k a).val - (![0, o] : Fin 2 → ℕ) a = (ix2 r j a).val
  rw [hall a]; exact Nat.add_sub_cancel_left _ _

/-- The same at a column before it. -/
theorem put_cols_before {α : Type} {N o m : ℕ} (x : (⟨2, ![8, N]⟩ : Shape).Idx → α) (w : (⟨2, ![8, m]⟩ : Shape).Idx → α) (r : Fin 8) (k : Fin N)
    (h : k.val < o) : VecWindow.put x ![0, o] ![8, m] w (ix2 r k) = x (ix2 r k) := by
  unfold VecWindow.put
  rw [dif_neg fun hall => absurd (show o ≤ k.val from (hall (1 : Fin 2)).1) (Nat.not_le.2 h)]

/-- The output's buffer after the point. -/
theorem out_new (hL : ∀ r k, L r k < ⊤) (hB : BlockIs L i x1 x2 x3) (hR : Running L (i 0).val x5 x6)
    (hO : (i 0).val ≠ 0 → OutIs L ((i 0).val - 1) x4) : OutIs L (i 0).val (newOut i x1 x2 x3 x4 x5 x6) := fun r k => by
  have hi : (i 0).val < 25 := (i 0).isLt
  have hold : k.val < 4096 * (i 0).val → x4 (ix2 r k) = L r k := fun hk => by
    have h0 : (i 0).val ≠ 0 := fun e => by rw [e] at hk; omega
    have := hO h0 r k
    rw [if_neg (by omega)] at this
    exact this (by omega)
  unfold newOut
  by_cases h : (i 0).val = 24
  · rw [if_pos h, if_pos h, pay4_at, rowSum_at hL hB hR, rowMax_at hB hR, h]
    congr 1
    by_cases hk : k.val < 98304
    · exact (put_cols_before _ _ r k hk).trans (hold (by omega))
    · have hk' : k.val - 98304 < 1696 := by omega
      refine (put_cols_in _ _ r k ⟨k.val - 98304, hk'⟩ (by show k.val = 98304 + (k.val - 98304); omega)).trans ?_
      rw [pay8_at]
      exact hB r k ⟨k.val - 98304, by omega⟩ (by show k.val = 4096 * (i 0).val + (k.val - 98304); omega)
  · rw [if_neg h, if_neg h]
    intro hk
    rw [k0_off2_eq]
    by_cases hk' : k.val < 4096 * (i 0).val
    · exact (put_cols_before _ _ r k hk').trans (hold hk')
    · have hk2 : k.val - 4096 * (i 0).val < 4096 := by omega
      have e : k.val = 4096 * (i 0).val + (k.val - 4096 * (i 0).val) := by omega
      exact (put_cols_in _ _ r k ⟨k.val - 4096 * (i 0).val, hk2⟩ e).trans (hB r k ⟨k.val - 4096 * (i 0).val, hk2⟩ e)

end

end Cert.KernelIdeal.Hand

end
-- ==== Proof.ValueIdeal.lean ====
module

public import proofs.«01_k».proof.Proof.FrameIdeal
public import proofs.«01_k».proof.Proof.PayIdeal
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Online
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

/-! ## The logits, and the windows' blocks as parts of the arguments -/

/-- The logits of the arguments. -/
def logits (z : Vec Ideal S8x1024 .f32) (W : Vec Ideal S1024x100000 .f32) (b : Vec Ideal S100000 .f32) (r : Fin 8) (k : Fin 100000) : EReal :=
  (∑ q : Fin 1024, z (ix2 r q) * W (ix2 q k)) + b (ix1 k)

variable (m : (ℓ : Loc nD τ sig) → Buf (Elt Ideal) ℓ) (ρ : Dev nD → PrngReg)

/-- The logits of a core's arguments at launch. -/
abbrev lg (c : Dev nD) : Fin 8 → Fin 100000 → EReal :=
  logits (m ((c : Thread nD τ).loc main_arg0)) (m ((c : Thread nD τ).loc main_arg1)) (m ((c : Thread nD τ).loc main_arg2))

/-- The weights' array as the launch finds it: the transposed argument. -/
theorem V_wt (c : Dev nD) (k : Fin 100000) (q : Fin 1024) :
    V m c main_v2 (ix2 k q) = m ((c : Thread nD τ).loc main_arg1) (ix2 q k) := by
  have e : V m c main_v2 = transpose S100000x1024 [1, 0] (m ((c : Thread nD τ).loc main_arg1)) transposes_S1024x100000_S100000x1024_1_0 := by
    simp only [V, hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results
  rw [e]
  pointwise

/-- The bias's array as the launch finds it: the padded argument, read inside. -/
theorem V_bias (c : Dev nD) (k : Fin 102400) (k' : Fin 100000) (h : k.val = k'.val) :
    V m c main_v1 (ix2 (0 : Fin 1) k) = m ((c : Thread nD τ).loc main_arg2) (ix1 k') := by
  have e : V m c main_v1 = shapeCast S1x102400 (pad (s := S100000) (α := EReal) S102400 ![0] ![2400] ![0] (m ((c : Thread nD τ).loc main_arg2))
      (sitofp (F := Ideal) .f32 (constantI S_ 32 0#32)) pads_S100000_S102400_024000 h_S_) shapeCasts_S102400_S1x102400 := by
    simp only [V, hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results
    rfl
  rw [e]
  pointwise
  rw [dif_pos (by omega)]
  exact congrArg (fun q : Fin 100000 => m ((c : Thread nD τ).loc main_arg2) (ix1 q)) (Fin.ext h)

theorem idx_0 : ∀ t : Fin cfg0.N, win0_0.index t = ![0, 0] := (by decide +kernel : ∀ t : Fin grid0.N, _)
theorem idx_1 : ∀ t : Fin cfg0.N, win0_1.index t = ![(grid0.coords t 0).val, 0] := (by decide +kernel : ∀ t : Fin grid0.N, _)
theorem idx_2 : ∀ t : Fin cfg0.N, win0_2.index t = ![0, 0] := (by decide +kernel : ∀ t : Fin grid0.N, _)
theorem coords_val : ∀ t : Fin cfg0.N, (grid0.coords t 0).val = t.val := (by decide +kernel : ∀ t : Fin grid0.N, _)
theorem xsize_1 : ∀ t : Fin cfg0.N, win0_1.xsize (grid0.coords t) = ![min 4096 (100000 - 4096 * (grid0.coords t 0).val), 1024] :=
  (by decide +kernel : ∀ t : Fin grid0.N, _)

theorem iblk_0 (c : Dev nD) (t : Fin cfg0.N) (r : Fin 8) (q : Fin 1024) :
    (iblk m c 0 t : Vec Ideal S8x1024 .f32) (ix2 r q) = m ((c : Thread nD τ).loc main_arg0) (ix2 r q) := by
  blk_ext [iblk, V, idx_0 t]

theorem iblk_2 (c : Dev nD) (t : Fin cfg0.N) (k : Fin 102400) :
    (iblk m c 2 t : Vec Ideal S1x102400 .f32) (ix2 (0 : Fin 1) k) = V m c main_v1 (ix2 (0 : Fin 1) k) := by
  blk_ext [iblk, idx_2 t]

theorem fill_1 (c : Dev nD) (t : Fin cfg0.N) (d) (j : Fin 4096) (q : Fin 1024) (k : Fin 100000)
    (h : k.val = 4096 * (grid0.coords t 0).val + j.val) :
    (win0_1.fill (grid0.coords t) d (iblk m c 1 t) : Vec Ideal S4096x1024 .f32) (ix2 j q) = V m c main_v2 (ix2 k q) := by
  have hm : win0_1.moved (grid0.coords t) (ix2 j q : S4096x1024.Idx) = true := (win0_1.moved_iff _ _).2 fun a => by
    rw [xsize_1]
    match a with
    | ⟨0, _⟩ => show j.val < min 4096 (100000 - 4096 * (grid0.coords t 0).val); omega
    | ⟨1, _⟩ => exact q.isLt
  unfold Pipeline.Window.fill
  rw [dif_pos hm]
  blk_ext [iblk, idx_1 t]

theorem block_is (c : Dev nD) (t : Fin cfg0.N) (d) :
    BlockIs (lg m c) (grid0.coords t) (iblk m c 0 t) (win0_1.fill (grid0.coords t) d (iblk m c 1 t)) (iblk m c 2 t) := fun r k j h => by
  rw [pay7_at, biasOf_at, iblk_2, V_bias m c _ k h.symm]
  show _ = logits _ _ _ r k
  unfold logits
  congr 1
  exact Finset.sum_congr rfl fun q _ => by rw [iblk_0, fill_1 m c t d j q k h, V_wt]

end Cert.KernelIdeal.Hand

end
-- ==== Proof.RunIdeal.lean ====
module

public import proofs.«01_k».proof.Proof.ValueIdeal

@[expose] public section

set_option maxRecDepth 16384

noncomputable section

namespace Cert.KernelIdeal.Hand

open Cert.KernelIdeal Cert.KernelIdeal.Gen Cert.Online
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg)

/-! ## The run, with the running maximum and sum followed from point to point -/

/-- What holds between points: the scratch buffers hold the running maximum and sum of the columns so far. -/
def carried (c : Dev nD) (n : ℕ) : sProp 𝕄 :=
  iprop((∃ x5 x6 : Vec Ideal S8x128 .f32, ⌜Running (lg m c) n x5 x6⌝
    ∗ owns (c : Thread nD τ) (Memref.whole cc0_scratch0) fullShare x5
    ∗ owns (c : Thread nD τ) (Memref.whole cc0_scratch1) fullShare x6) ∗ (∃ r, prngReg c r))

/-- The frame's proof data with the scratch buffers' contents followed. -/
def vdat (c : Dev nD) : Dat τ (Elt Ideal) Unit ℕ (UR sig nD τ) ℕ cfg0 c :=
  { dats m 0 c with Φ := fun t => carried m c t.val }

/-- What the body leaves in the output's buffer at a point. -/
def leaves (c : Dev nD) (w : Fin cfg0.W) (t : Fin cfg0.N) (X : (cfg0.win w).block.Idx → Elt Ideal (cfg0.win w).elt) : Prop :=
  match w, X with
  | ⟨3, _⟩, X => OutIs (lg m c) t.val X
  | ⟨_, _⟩, _ => True

theorem vbefore_0 (c : Dev nD) (t : Fin cfg0.N) (d) : (vdat m c).before (0 : Fin 4) t d = iblk m c 0 t :=
  before0_0_of m (vdat m c) rfl (fun _ => rfl) t d
theorem vbefore_2 (c : Dev nD) (t : Fin cfg0.N) (d) : (vdat m c).before (2 : Fin 4) t d = iblk m c 2 t :=
  before0_2_of m (vdat m c) rfl (fun _ => rfl) t d
theorem vbefore_1 (c : Dev nD) (t : Fin cfg0.N) (d) :
    (vdat m c).before (1 : Fin 4) t d = win0_1.fill (grid0.coords t) d (iblk m c 1 t) := by
  unfold Dat.before; rw [if_pos (fetch0_1 t)]; rfl

theorem fetch_3 : ∀ t : Fin cfg0.N, win0_3.fetch t = false := (by decide +kernel : ∀ t : Fin grid0.N, _)

/-- After the first point the body finds in the output's buffer what it left there at the point before. -/
theorem finds_out (c : Dev nD) (t : Fin cfg0.N) (ht : t.val ≠ 0) (X : Vec Ideal S8x100000 .f32)
    (h : ((vdat m c).toRRel outOnly (leaves m c)).Finds (3 : Fin 4) t X) : OutIs (lg m c) (t.val - 1) X := by
  rcases (((vdat m c).toRRel outOnly (leaves m c)).finds_of_pos (w := (3 : Fin 4)) (fetch_3 t) ht X).1 h with hf | hl
  · have := (flush0_3 _).1 hf
    have hN : t.val < 25 := t.isLt
    simp only at this
    omega
  · exact Dat.toRRel_leaves (vdat m c) rfl hl

theorem vbody_obligation (c : Dev nD) (hL : ∀ r k, lg m c r k < ⊤) :
    BodyObligationRel (vdat m c) (defs₀ (F := Ideal)) Variants.none () Set.univ outOnly (leaves m c) := fun t => by
  rw [bigSep_W0, bigSep_W0, defs₀_row]
  simp only [outOnly]
  rw [show (vdat m c).owesAt () t.succ = (vdat m c).owesAt () t.castSucc from rfl]
  rw [show (vdat m c).Φ t.succ = carried m c (t.val + 1) from rfl,
    show (vdat m c).Φ t.castSucc = carried m c t.val from rfl]
  unfold carried
  iintro ⟨⟨⟨%x5, %x6, %hR, H5, H6⟩, Hp⟩, Ho, ⟨%d0, H0⟩, ⟨%d1, H1⟩, ⟨%d2, H2⟩, ⟨%x4, %hF, H4⟩⟩
  rw [vbefore_0 m c t d0, vbefore_1 m c t d1, vbefore_2 m c t d2]
  have hB := block_is m c t d1
  have hR' : Running (lg m c) (grid0.coords t 0).val x5 x6 := by rw [coords_val]; exact hR
  have hO : (grid0.coords t 0).val ≠ 0 → OutIs (lg m c) ((grid0.coords t 0).val - 1) x4 := fun h => by
    rw [coords_val] at h ⊢; exact finds_out m c t h x4 hF
  have hnR := running_new hL hB hR'
  have hnO := out_new hL hB hR' hO
  rw [coords_val] at hnR hnO
  iapply (body_run (F := Ideal) c (grid0.coords t) _ _ _ _ _ _ _ _ _ _ _ _ (iblk m c 0 t)
    (win0_1.fill (grid0.coords t) d1 (iblk m c 1 t)) (iblk m c 2 t) x4 x5 x6 Set.univ _)
  isplitl [H0]; · iexact H0
  isplitl [H1]; · iexact H1
  isplitl [H2]; · iexact H2
  isplitl [H4]; · iexact H4
  isplitl [H5]; · iexact H5
  isplitl [H6]; · iexact H6
  iintro ⟨H0, H1, H2, H4, H5, H6⟩
  isplitl [H5 H6 Hp]
  · isplitl [H5 H6]
    · iexists _, _
      isplitr; · ipureintro; exact hnR
      isplitl [H5]; · iexact H5
      iexact H6
    · iexact Hp
  isplitl [Ho]; · iexact Ho
  isplitl [H0]; · iexact H0
  isplitl [H1]
  · iexists d1
    change _ ⊢ owns (c : Thread nD τ) (win0_1.stage (cfg0.slots t 1)) fullShare
      (win0_1.fill (grid0.coords t) d1 (win0_1.cut (grid0.coords t) (wblk m c t)))
    rw [show win0_1.cut (grid0.coords t) (wblk m c t) = iblk m c 1 t from win0_1.cut_fill _ _ _]
  isplitl [H2]; · iexact H2
  iexists _
  isplitr; · ipureintro; exact hnO
  iexact H4

/-- At launch nothing is asked of the scratch buffers. -/
theorem carried_of_any (c : Dev nD) : (Pipeline.ΦA (Val := Elt Ideal) spec0 c : sProp 𝕄) ⊢ carried m c 0 := by
  rw [classInv_eq]; unfold carried
  iintro ⟨⟨⟨%x5, H5⟩, ⟨%x6, H6⟩⟩, Hp⟩
  isplitl [H5 H6]
  · iexists x5, x6
    isplitr; · ipureintro; exact fun h => absurd rfl h
    isplitl [H5]; · iexact H5
    iexact H6
  · iexact Hp

theorem any_of_carried (c : Dev nD) (n : ℕ) : carried m c n ⊢ (Pipeline.ΦA (Val := Elt Ideal) spec0 c : sProp 𝕄) := by
  rw [classInv_eq]; unfold carried
  iintro ⟨⟨%x5, %x6, -, H5, H6⟩, Hp⟩
  isplitl [H5 H6]
  · isplitl [H5]
    · iexists _; iexact H5
    · iexists _; iexact H6
  · iexact Hp

set_option backward.isDefEq.respectTransparency.types false in
theorem run_value (hL : ∀ c r k, lg m c r k < ⊤) : θ_run defs (onTc (τ := τ) (main (F := Ideal))) (s₀ m ρ)
    (fun r => RDat.FramePost cfg0 (fun c => (vdat m c).toRRel outOnly (leaves m c)) (V m) r ∧ r.2.sem = fun _ => 0) :=
  RDat.θ_run_frame_track (Q' := _) cfgs (0 : Fin 1) launch0 defs₀ Variants.none
    (fun c => (vdat m c).toRRel outOnly (leaves m c)) m ρ main
    (hbody := fun c => (vbody_obligation m c (hL c)).toRRel) (hshare := fun c => (vdat m c).share_full fun _ => rfl)
    (howed := fun _ _ => rfl) (V := V m) (hmain := hmain m Variants.none) (hA := fun _ _ => rfl)
    (hin := fun c => carried_of_any m c) (hout := fun c => any_of_carried m c _)

/-- What the kernel leaves in its result: each logit less its row's log-sum-exp. -/
def result (c : Dev nD) : Vec Ideal S8x100000 .f32 := fun j =>
  lg m c (j 0) (j 1) - (top (extend (lg m c (j 0))) 102400 + Ideal.log (mass (extend (lg m c (j 0))) 102400))

/-- The output is written back once, whole, at the last point. -/
theorem whole_3 : ∃ t : Fin cfg0.N, t.val = 24 ∧ (cfg0.win 3).WholeAt t :=
  (by decide +kernel : ∃ t : Fin grid0.N, t.val = 24 ∧ win0_3.WholeAt t)

theorem out_eq {r : PUnit × MemSt nD τ sig (Elt Ideal)}
    (h : RDat.FramePost cfg0 (fun c => (vdat m c).toRRel outOnly (leaves m c)) (V m) r) (c : Dev nD) :
    r.2.mem ((c.tc : Thread nD τ).loc main_v3) = result m c := by
  obtain ⟨t, ht, hw⟩ := whole_3
  obtain ⟨after, hl, hA⟩ := RDat.FramePost.exists_exact h c
  have hlast : OutIs (lg m c) t.val (after (3 : Fin 4) t) := Dat.toRRel_leaves (vdat m c) rfl (hl (3 : Fin 4) t hw.1)
  have hX : ∀ j : S8x100000.Idx, after (3 : Fin 4) t j = result m c j := fun j => by
    have := hlast (j 0) (j 1)
    rw [if_pos ht] at this
    exact (congrArg (after (3 : Fin 4) t) (ix2_eta (n0 := 8) (n1 := 100000) j).symm).trans this
  refine (hA (3 : Fin 4)).trans (Dat.arrAt_eq_of_after_last _ (3 : Fin 4) t hw (result m c) fun j => ?_)
  exact hX j

/-- The kernel's run: it ends with `result` in its result, its arguments as at the start. -/
theorem value (hL : ∀ c r k, lg m c r k < ⊤) : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨out_eq m h.1 c, (RDat.FramePost.arr_in h.1 c 0 rfl).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_value m ρ hL)

end Cert.KernelIdeal.Hand

end
-- ==== Proof.RefIdeal.lean ====
module

public import proofs.«01_k».proof.Defs
public import proofs.«01_k».proof.Proof.RunIdeal
public import proofs.«01_k».proof.Proof.Gen.ReferenceIdeal.Run
public import Idealize.ShloMosaic.Lib.ReduceAll
public import Idealize.ShloMosaic.Lib.Pointwise

@[expose] public section

set_option maxRecDepth 16384

noncomputable section

namespace Cert.Bridge

open Cert.Online Cert.KernelIdeal.Hand
open Idealize.ShloMosaic

/-! ## The precondition read back: every logit is below plus infinity -/

/-- The side conditions of the precondition's operations. -/
theorem preFacts : Cert.Pre_logits_below_inf.Facts where
  bcast_S100000_S1x100000_1 := by decide
  bcast_S1x100000_S8x100000_0_1 := by decide
  bcast_S_S8x100000 := by decide
  reducesTo_S8x100000_S_d0_1 := by decide
  h_S_ := by decide
  dot_S8x1024_S1024x100000_S8x100000_1_0_0_1_n_n_wf := by decide

theorem posInf : Ideal.ofBits .f32 0x7F800000#32 = ⊤ := by simp [Ideal.ofBits, Ideal.ieee]

section
open Cert.Pre_logits_below_inf

variable [Facts]

theorem logits_lt (z : Vec Ideal S8x1024 .f32) (W : Vec Ideal S1024x100000 .f32) (b : Vec Ideal S100000 .f32)
    (h : fn (F := Ideal) z W b = fun _ => 1#1) (r : Fin 8) (k : Fin 100000) : logits z W b r k < ⊤ := by
  have h0 := congrFun h (Shape.Idx.first Facts.h_S_)
  dsimp only [fn] at h0
  have : Subsingleton S_.Idx := ⟨fun _ _ => funext fun a => a.elim0⟩
  have hi := Host.reduce_andi_all _ _ _ _ _ h0 (ix2 r k)
  have e : cmpf (F := Ideal) .olt (addf (Host.dotGeneral (φ₁ := .f32) (φ₂ := .f32) dot_S8x1024_S1024x100000_S8x100000_1_0_0_1_n_n none z W)
      (broadcastInDim S8x100000 ![0, 1] Facts.bcast_S1x100000_S8x100000_0_1 (broadcastInDim S1x100000 ![1] Facts.bcast_S100000_S1x100000_1 b)))
      (broadcastInDim S8x100000 ![] Facts.bcast_S_S8x100000 (constant S_ .f32 0x7F800000#32)) (ix2 r k)
      = Ideal.cmp .olt (logits z W b r k) (Ideal.ofBits .f32 0x7F800000#32) := by
    unfold logits
    pointwise [dot_S8x1024_S1024x100000_S8x100000_1_0_0_1_n_n]
  have hi' := e.symm.trans hi
  rw [posInf] at hi'
  by_contra hn
  have hz : Ideal.cmp .olt (logits z W b r k) ⊤ = 0#1 := congrArg BitVec.ofBool (decide_eq_false hn)
  exact absurd (hz.symm.trans hi') (by decide)
end

section
open Cert.ReferenceIdeal Cert.ReferenceIdeal.Gen

/-- The reference's logits. -/
theorem refLogits_at (z : Vec Ideal S8x1024 .f32) (W : Vec Ideal S1024x100000 .f32) (b : Vec Ideal S100000 .f32) (r : Fin 8) (k : Fin 100000) :
    addf (F := Ideal) (Host.dotGeneral (φ₁ := .f32) (φ₂ := .f32) dot_S8x1024_S1024x100000_S8x100000_1_0_0_1_n_n none z W)
      (broadcastInDim S8x100000 ![0, 1] bcast_S1x100000_S8x100000_0_1 (broadcastInDim S1x100000 ![1] bcast_S100000_S1x100000_1 b)) (ix2 r k)
      = logits z W b r k := by
  unfold logits
  pointwise [dot_S8x1024_S1024x100000_S8x100000_1_0_0_1_n_n]

/-- The row's maximum, as the reference takes it, spread over the columns. -/
theorem refMax_at (x : Vec Ideal S8x100000 .f32) (r : Fin 8) (k : Fin 100000) :
    broadcastInDim S8x100000 ![0, 1] bcast_S8x1_S8x100000_0_1 (broadcastInDim S8x1 ![0] bcast_S8_S8x1_0
      (maximumf (F := Ideal) (broadcastInDim S8 ![] bcast_S_S8 (constant S_ .f32 0xFF800000#32))
        (Host.reduce FloatOps.maximumf x (constant S_ .f32 0xFF800000#32) reducesTo_S8x100000_S8_d1 h_S_))) (ix2 r k)
      = Finset.univ.sup fun q : Fin 100000 => x (ix2 r q) := by
  pointwise
  rw [negInf]
  exact max_eq_right bot_le

/-- The logarithm of a row's sum of exponentials, spread over the columns. -/
theorem refLog_at (x : Vec Ideal S8x100000 .f32) (r : Fin 8) (k : Fin 100000) :
    broadcastInDim S8x100000 ![0, 1] bcast_S8x1_S8x100000_0_1 (Host.log (F := Ideal) (broadcastInDim S8x1 ![0] bcast_S8_S8x1_0
      (Host.reduceAdd (Host.exp x) (constant S_ .f32 0x00000000#32) reducesTo_S8x100000_S8_d1 h_S_))) (ix2 r k)
      = Ideal.log (∑ q : Fin 100000, Ideal.exp (x (ix2 r q))) := by
  pointwise
end

/-! ## The two sides are equal -/

section
open Cert.ReferenceIdeal Cert.ReferenceIdeal.Gen

/-- Each logit less its row's log-sum-exp, in the reference's order of subtraction. -/
theorem result_at (m : (ℓ : Loc Cert.KernelIdeal.nD Cert.KernelIdeal.τ Cert.KernelIdeal.sig) → Buf (Elt Ideal) ℓ)
    (c : Dev Cert.KernelIdeal.nD) (hL : ∀ r k, lg m c r k < ⊤) (r : Fin 8) (k : Fin 100000) :
    result m c (ix2 r k) = lg m c r k - Finset.univ.sup (lg m c r)
      - Ideal.log (∑ q, Ideal.exp (lg m c r q - Finset.univ.sup (lg m c r))) := by
  show lg m c r k - (top (extend (lg m c r)) 102400 + Ideal.log (mass (extend (lg m c r)) 102400)) = _
  rw [top_extend (by decide), mass_extend (by decide)]
  exact sub_lse _ _ _ ((Finset.sup_lt_iff bot_lt_top).2 fun q _ => hL r q) (Finset.le_sup (f := lg m c r) (Finset.mem_univ k))

/-- The reference's term of the arguments is the kernel's result. -/
theorem ref_eq (m : (ℓ : Loc Cert.KernelIdeal.nD Cert.KernelIdeal.τ Cert.KernelIdeal.sig) → Buf (Elt Ideal) ℓ)
    (c : Dev Cert.KernelIdeal.nD) (hL : ∀ r k, lg m c r k < ⊤) (z : Vec Ideal S8x1024 .f32) (W : Vec Ideal S1024x100000 .f32)
    (b : Vec Ideal S100000 .f32) (hlg : lg m c = logits z W b) (x M : Vec Ideal S8x100000 .f32)
    (hx : x = addf (F := Ideal) (Host.dotGeneral (φ₁ := .f32) (φ₂ := .f32) dot_S8x1024_S1024x100000_S8x100000_1_0_0_1_n_n none z W)
      (broadcastInDim S8x100000 ![0, 1] bcast_S1x100000_S8x100000_0_1 (broadcastInDim S1x100000 ![1] bcast_S100000_S1x100000_1 b)))
    (hM : M = broadcastInDim S8x100000 ![0, 1] bcast_S8x1_S8x100000_0_1 (broadcastInDim S8x1 ![0] bcast_S8_S8x1_0
      (maximumf (F := Ideal) (broadcastInDim S8 ![] bcast_S_S8 (constant S_ .f32 0xFF800000#32))
        (Host.reduce FloatOps.maximumf x (constant S_ .f32 0xFF800000#32) reducesTo_S8x100000_S8_d1 h_S_)))) :
    subf (F := Ideal) (φ := .f32) (subf (F := Ideal) (φ := .f32) x M) (broadcastInDim S8x100000 ![0, 1] bcast_S8x1_S8x100000_0_1 (Host.log (F := Ideal) (broadcastInDim S8x1 ![0] bcast_S8_S8x1_0
      (Host.reduceAdd (Host.exp (subf (F := Ideal) (φ := .f32) x M)) (constant S_ .f32 0x00000000#32) reducesTo_S8x100000_S8_d1 h_S_)))) = result m c := by
  have hxa : ∀ r k, x (ix2 r k) = lg m c r k := fun r k => by rw [hx, hlg]; exact refLogits_at z W b r k
  have hMa : ∀ r k, M (ix2 r k) = Finset.univ.sup (lg m c r) := fun r k => by
    rw [hM, refMax_at]; exact congrArg _ (funext fun q => hxa r q)
  have hd : ∀ r k, subf (F := Ideal) (φ := .f32) x M (ix2 r k) = lg m c r k - Finset.univ.sup (lg m c r) := fun r k => by
    rw [← hxa, ← hMa r k]; rfl
  funext j
  obtain ⟨r, k, rfl⟩ : ∃ (r : Fin 8) (k : Fin 100000), j = ix2 r k := ⟨j 0, j 1, (ix2_eta (n0 := 8) (n1 := 100000) j).symm⟩
  refine Eq.trans ?_ (result_at m c hL r k).symm
  refine congrArg₂ (fun u v : EReal => u - v) (hd r k) ((refLog_at _ r k).trans ?_)
  exact congrArg Ideal.log (Finset.sum_congr rfl fun q _ => congrArg Ideal.exp (hd r q))
end

end Cert.Bridge

end
-- ==== Proof.lean ====
module

public import proofs.«01_k».proof.Defs
public import proofs.«01_k».proof.Proof.Frame
public import proofs.«01_k».proof.Proof.FrameIdeal
public import proofs.«01_k».proof.Proof.RefIdeal
public import proofs.«01_k».proof.Proof.Gen.ReferenceIdeal.Run
public import Idealize.ShloMosaic.Lib.Claim
public import Idealize.ShloMosaic.Adequacy
public import Idealize.ShloMosaic.Init

@[expose] public section

noncomputable section

namespace Cert.Proof

open Idealize.ShloMosaic Idealize.SL.Sem

theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono
    (fun r h => ⟨fun c => ⟨(h c).2.1, (h c).2.2.1, (h c).2.2.2⟩, sem_eq_zero_of_no_sems (by decide) r.2⟩)
    (Cert.ReferenceIdeal.Value.run m ρ)

theorem algebraic : Cert.algebraic_KernelIdeal_ReferenceIdeal_pre_logits_below_inf (hKernelIdeal := Cert.KernelIdeal.Gen.facts)
    (hReferenceIdeal := Cert.ReferenceIdeal.Gen.facts) (hPre_logits_below_inf := Cert.Bridge.preFacts) := fun m g m' g' hpre hargs => by
  have hL : ∀ c r k, Cert.KernelIdeal.Hand.lg m c r k < ⊤ := fun c => @Cert.Bridge.logits_lt Cert.Bridge.preFacts _ _ _ (hpre c)
  refine ⟨Cert.KernelIdeal.Hand.result m, Cert.KernelIdeal.Hand.value m g hL, (θ_run _ _ _).mono (fun r h c => ?_) (Cert.ReferenceIdeal.Value.run m' g')⟩
  refine ⟨(h c).1.trans (Cert.Bridge.ref_eq m c (hL c) _ _ _ ?_ _ _ rfl rfl), (h c).2⟩
  have e := hargs c
  unfold Cert.KernelIdeal.Hand.lg
  rw [e.1, e.2.1, e.2.2]

theorem claim : Cert.Claim := ⟨Cert.Kernel.Gen.facts, Cert.KernelIdeal.Gen.facts, Cert.ReferenceIdeal.Gen.facts, Cert.Bridge.preFacts,
  fun m ρ _ => Cert.Kernel.Hand.frame m ρ,
  fun m ρ _ => Cert.KernelIdeal.Hand.frame m ρ,
  fun m ρ _ => Cert.KernelIdeal.Hand.frame m ρ,
  fun m ρ _ => reference_frame m ρ,
  fun m ρ _ => reference_frame m ρ,
  trivial,
  algebraic⟩

end Cert.Proof

end
